-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_even_groups [hPre_even_groups : Cert.Pre_even_groups.Facts] (m : (ℓ : Loc Cert.KernelIdeal.nD Cert.KernelIdeal.τ Cert.KernelIdeal.sig) → Buf (Elt Ideal) ℓ) : Prop :=
  ∀ c : Dev Cert.KernelIdeal.nD,
    (Cert.Pre_even_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_even_groups [hPre_even_groups : Cert.Pre_even_groups.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even_groups.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_even_groups [hKernelIdeal : Cert.KernelIdeal.Facts] [hPre_even_groups : Cert.Pre_even_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_even_groups m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_even_groups [hReferenceIdeal : Cert.ReferenceIdeal.Facts] [hPre_even_groups : Cert.Pre_even_groups.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even_groups m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_even_groups [hKernelIdeal : Cert.KernelIdeal.Facts] [hReferenceIdeal : Cert.ReferenceIdeal.Facts] [hPre_even_groups : Cert.Pre_even_groups.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_even_groups m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_even_groups : Cert.Pre_even_groups.Facts),
    quiescent_Kernel (hKernel := hKernel)
    ∧ quiescent_KernelIdeal (hKernelIdeal := hKernelIdeal)
    ∧ quiescent_KernelIdeal_pre_even_groups (hKernelIdeal := hKernelIdeal) (hPre_even_groups := hPre_even_groups)
    ∧ quiescent_ReferenceIdeal (hReferenceIdeal := hReferenceIdeal)
    ∧ quiescent_ReferenceIdeal_pre_even_groups (hReferenceIdeal := hReferenceIdeal) (hPre_even_groups := hPre_even_groups)
    ∧ preserves_Kernel_KernelIdeal
    ∧ algebraic_KernelIdeal_ReferenceIdeal_pre_even_groups (hKernelIdeal := hKernelIdeal) (hReferenceIdeal := hReferenceIdeal) (hPre_even_groups := hPre_even_groups)
-- ==== Pre_even_groups.lean ====
abbrev S4096x1024 : Shape := ⟨2, ![4096, 1024]⟩
abbrev S8 : Shape := ⟨1, ![8]⟩
abbrev S8x1024x4096 : Shape := ⟨3, ![8, 1024, 4096]⟩
abbrev S8x4096 : Shape := ⟨2, ![8, 4096]⟩
abbrev S8x2048x1024 : Shape := ⟨3, ![8, 2048, 1024]⟩
abbrev S8x1024 : Shape := ⟨2, ![8, 1024]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S4096x1024 .f32) (main_arg1 : IVec S8 32) (main_arg2 : FVec F S8x1024x4096 .f32) (main_arg3 : FVec F S8x4096 .f32) (main_arg4 : FVec F S8x2048x1024 .f32) (main_arg5 : FVec F S8x1024 .f32) : IVec S_ 1 :=
  let main_c : IVec S_ 32 := constantI S_ 32 512#32
  let main_v0 : IVec S8 32 := broadcastInDim S8 ![] bcast_S_S8 main_c
  let main_v1 : IVec S8 1 := cmpi .eq main_arg1 main_v0
  let main_c_0 : IVec S_ 1 := constantI S_ 1 1#1
  let main_v2 : IVec S_ 1 := (fun x v => Host.reduce IntOp.andi x v reducesTo_S8_S_d0 h_S_) main_v1 main_c_0
  main_v2
-- ==== Kernel.lean ====
abbrev S4096x1024 : Shape := ⟨2, ![4096, 1024]⟩
abbrev S8 : Shape := ⟨1, ![8]⟩
abbrev S8x1024x4096 : Shape := ⟨3, ![8, 1024, 4096]⟩
abbrev S8x4096 : Shape := ⟨2, ![8, 4096]⟩
abbrev S8x2048x1024 : Shape := ⟨3, ![8, 2048, 1024]⟩
abbrev S8x1024 : Shape := ⟨2, ![8, 1024]⟩
abbrev S8x2x2048 : Shape := ⟨3, ![8, 2, 2048]⟩
abbrev S8x1x1024 : Shape := ⟨3, ![8, 1, 1024]⟩
abbrev S512x1024 : Shape := ⟨2, ![512, 1024]⟩
abbrev S1x1024x1024 : Shape := ⟨3, ![1, 1024, 1024]⟩
abbrev S1x2x1024 : Shape := ⟨3, ![1, 2, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S8, .i32⟩
  | .hbm, ⟨2, _⟩ => ⟨S8x1024x4096, .f32⟩
  | .hbm, ⟨3, _⟩ => ⟨S8x4096, .f32⟩
  | .hbm, ⟨4, _⟩ => ⟨S8x2048x1024, .f32⟩
  | .hbm, ⟨5, _⟩ => ⟨S8x1024, .f32⟩
  | .hbm, ⟨6, _⟩ => ⟨S8x2x2048, .f32⟩
  | .hbm, ⟨7, _⟩ => ⟨S8x1x1024, .f32⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x2x1024, .f32⟩
  | .local _ .vmem, ⟨7, _⟩ => ⟨S1x2x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v33 : BitVec 1 := Scalar.cmpi .eq arg1 c0_i32
  let v34 : BitVec 32 := Scalar.extui v33
  let c0_i32_23 : BitVec 32 := 0#32
  let v35 : BitVec 1 := Scalar.cmpi .ne v34 c0_i32_23
  v35

def k0_cond2 (i : grid0.Coords) : BitVec 1 :=
  let arg1 : BitVec 32 := BitVec.ofNat 32 (i 1).val
  let c0_i32_24 : BitVec 32 := 0#32
  let v36 : BitVec 1 := Scalar.cmpi .ne arg1 c0_i32_24
  let v37 : BitVec 32 := Scalar.extui v36
  let c0_i32_25 : BitVec 32 := 0#32
  let v38 : BitVec 1 := Scalar.cmpi .ne v37 c0_i32_25
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4096x1024 : Shape := ⟨2, ![4096, 1024]⟩
abbrev S8 : Shape := ⟨1, ![8]⟩
abbrev S8x1024x4096 : Shape := ⟨3, ![8, 1024, 4096]⟩
abbrev S8x4096 : Shape := ⟨2, ![8, 4096]⟩
abbrev S8x2048x1024 : Shape := ⟨3, ![8, 2048, 1024]⟩
abbrev S8x1024 : Shape := ⟨2, ![8, 1024]⟩
abbrev S_ : Shape := ⟨0, ![]⟩
abbrev S1x8 : Shape := ⟨2, ![1, 8]⟩
abbrev S4096 : Shape := ⟨1, ![4096]⟩
abbrev S4096x1 : Shape := ⟨2, ![4096, 1]⟩
abbrev S4096x8 : Shape := ⟨2, ![4096, 8]⟩
abbrev S4096x4096 : Shape := ⟨2, ![4096, 4096]⟩
abbrev S1x1024x4096 : Shape := ⟨3, ![1, 1024, 4096]⟩
abbrev S1024x4096 : Shape := ⟨2, ![1024, 4096]⟩
abbrev S1x4096 : Shape := ⟨2, ![1, 4096]⟩
abbrev S4096x2048 : Shape := ⟨2, ![4096, 2048]⟩
abbrev S1x2048x1024 : Shape := ⟨3, ![1, 2048, 1024]⟩
abbrev S2048x1024 : Shape := ⟨2, ![2048, 1024]⟩
abbrev S1x1024 : Shape := ⟨2, ![1, 1024]⟩
abbrev S1024 : Shape := ⟨1, ![1024]⟩

abbrev nBuf : Space → Nat
  | .hbm => 340
  | .vmem => 0
  | .smem => 0
  | _ => 0

abbrev hbmTy0_0 (i : Nat) : BufTy := match i % 128 with
  | 0 => ⟨S4096x1024, .f32⟩
  | 1 => ⟨S8, .i32⟩
  | 2 => ⟨S8x1024x4096, .f32⟩
  | 3 => ⟨S8x4096, .f32⟩
  | 4 => ⟨S8x2048x1024, .f32⟩
  | 5 => ⟨S8x1024, .f32⟩
  | 6 => ⟨S_, .i32⟩
  | 7 => ⟨S_, .i32⟩
  | 8 => ⟨S8, .i32⟩
  | 9 => ⟨S1x8, .i32⟩
  | 10 => ⟨S4096, .i32⟩
  | 11 => ⟨S4096x1, .i32⟩
  | 12 => ⟨S4096x8, .i32⟩
  | 13 => ⟨S4096x8, .i32⟩
  | 14 => ⟨S4096x8, .i1⟩
  | 15 => ⟨S4096x8, .i32⟩
  | 16 => ⟨S_, .i32⟩
  | 17 => ⟨S4096, .i32⟩
  | 18 => ⟨S_, .i32⟩
  | 19 => ⟨S_, .i32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S_, .f32⟩
  | 27 => ⟨S4096x4096, .f32⟩
  | 28 => ⟨S_, .i32⟩
  | 29 => ⟨S4096, .i32⟩
  | 30 => ⟨S4096, .i1⟩
  | 31 => ⟨S4096x1, .i1⟩
  | 32 => ⟨S4096x1, .f32⟩
  | 33 => ⟨S1x1024x4096, .f32⟩
  | 34 => ⟨S1024x4096, .f32⟩
  | 35 => ⟨S4096x4096, .f32⟩
  | 36 => ⟨S1x4096, .f32⟩
  | 37 => ⟨S4096, .f32⟩
  | 38 => ⟨S1x4096, .f32⟩
  | 39 => ⟨S4096x4096, .f32⟩
  | 40 => ⟨S4096x4096, .f32⟩
  | 41 => ⟨S4096x4096, .f32⟩
  | 42 => ⟨S4096x4096, .f32⟩
  | 43 => ⟨S4096x4096, .f32⟩
  | 44 => ⟨S_, .i32⟩
  | 45 => ⟨S4096, .i32⟩
  | 46 => ⟨S4096, .i1⟩
  | 47 => ⟨S4096x1, .i1⟩
  | 48 => ⟨S4096x1, .f32⟩
  | 49 => ⟨S1x1024x4096, .f32⟩
  | 50 => ⟨S1024x4096, .f32⟩
  | 51 => ⟨S4096x4096, .f32⟩
  | 52 => ⟨S1x4096, .f32⟩
  | 53 => ⟨S4096, .f32⟩
  | 54 => ⟨S1x4096, .f32⟩
  | 55 => ⟨S4096x4096, .f32⟩
  | 56 => ⟨S4096x4096, .f32⟩
  | 57 => ⟨S4096x4096, .f32⟩
  | 58 => ⟨S4096x4096, .f32⟩
  | 59 => ⟨S4096x4096, .f32⟩
  | 60 => ⟨S_, .i32⟩
  | 61 => ⟨S4096, .i32⟩
  | 62 => ⟨S4096, .i1⟩
  | 63 => ⟨S4096x1, .i1⟩
  | 64 => ⟨S4096x1, .f32⟩
  | 65 => ⟨S1x1024x4096, .f32⟩
  | 66 => ⟨S1024x4096, .f32⟩
  | 67 => ⟨S4096x4096, .f32⟩
  | 68 => ⟨S1x4096, .f32⟩
  | 69 => ⟨S4096, .f32⟩
  | 70 => ⟨S1x4096, .f32⟩
  | 71 => ⟨S4096x4096, .f32⟩
  | 72 => ⟨S4096x4096, .f32⟩
  | 73 => ⟨S4096x4096, .f32⟩
  | 74 => ⟨S4096x4096, .f32⟩
  | 75 => ⟨S4096x4096, .f32⟩
  | 76 => ⟨S_, .i32⟩
  | 77 => ⟨S4096, .i32⟩
  | 78 => ⟨S4096, .i1⟩
  | 79 => ⟨S4096x1, .i1⟩
  | 80 => ⟨S4096x1, .f32⟩
  | 81 => ⟨S1x1024x4096, .f32⟩
  | 82 => ⟨S1024x4096, .f32⟩
  | 83 => ⟨S4096x4096, .f32⟩
  | 84 => ⟨S1x4096, .f32⟩
  | 85 => ⟨S4096, .f32⟩
  | 86 => ⟨S1x4096, .f32⟩
  | 87 => ⟨S4096x4096, .f32⟩
  | 88 => ⟨S4096x4096, .f32⟩
  | 89 => ⟨S4096x4096, .f32⟩
  | 90 => ⟨S4096x4096, .f32⟩
  | 91 => ⟨S4096x4096, .f32⟩
  | 92 => ⟨S_, .i32⟩
  | 93 => ⟨S4096, .i32⟩
  | 94 => ⟨S4096, .i1⟩
  | 95 => ⟨S4096x1, .i1⟩
  | 96 => ⟨S4096x1, .f32⟩
  | 97 => ⟨S1x1024x4096, .f32⟩
  | 98 => ⟨S1024x4096, .f32⟩
  | 99 => ⟨S4096x4096, .f32⟩
  | 100 => ⟨S1x4096, .f32⟩
  | 101 => ⟨S4096, .f32⟩
  | 102 => ⟨S1x4096, .f32⟩
  | 103 => ⟨S4096x4096, .f32⟩
  | 104 => ⟨S4096x4096, .f32⟩
  | 105 => ⟨S4096x4096, .f32⟩
  | 106 => ⟨S4096x4096, .f32⟩
  | 107 => ⟨S4096x4096, .f32⟩
  | 108 => ⟨S_, .i32⟩
  | 109 => ⟨S4096, .i32⟩
  | 110 => ⟨S4096, .i1⟩
  | 111 => ⟨S4096x1, .i1⟩
  | 112 => ⟨S4096x1, .f32⟩
  | 113 => ⟨S1x1024x4096, .f32⟩
  | 114 => ⟨S1024x4096, .f32⟩
  | 115 => ⟨S4096x4096, .f32⟩
  | 116 => ⟨S1x4096, .f32⟩
  | 117 => ⟨S4096, .f32⟩
  | 118 => ⟨S1x4096, .f32⟩
  | 119 => ⟨S4096x4096, .f32⟩
  | 120 => ⟨S4096x4096, .f32⟩
  | 121 => ⟨S4096x4096, .f32⟩
  | 122 => ⟨S4096x4096, .f32⟩
  | 123 => ⟨S4096x4096, .f32⟩
  | 124 => ⟨S_, .i32⟩
  | 125 => ⟨S4096, .i32⟩
  | 126 => ⟨S4096, .i1⟩
  | 127 => ⟨S4096x1, .i1⟩
  | _ => ⟨S4096x1024, .f32⟩

abbrev hbmTy0_1 (i : Nat) : BufTy := match i % 128 with
  | 0 => ⟨S4096x1, .f32⟩
  | 1 => ⟨S1x1024x4096, .f32⟩
  | 2 => ⟨S1024x4096, .f32⟩
  | 3 => ⟨S4096x4096, .f32⟩
  | 4 => ⟨S1x4096, .f32⟩
  | 5 => ⟨S4096, .f32⟩
  | 6 => ⟨S1x4096, .f32⟩
  | 7 => ⟨S4096x4096, .f32⟩
  | 8 => ⟨S4096x4096, .f32⟩
  | 9 => ⟨S4096x4096, .f32⟩
  | 10 => ⟨S4096x4096, .f32⟩
  | 11 => ⟨S4096x4096, .f32⟩
  | 12 => ⟨S_, .i32⟩
  | 13 => ⟨S4096, .i32⟩
  | 14 => ⟨S4096, .i1⟩
  | 15 => ⟨S4096x1, .i1⟩
  | 16 => ⟨S4096x1, .f32⟩
  | 17 => ⟨S1x1024x4096, .f32⟩
  | 18 => ⟨S1024x4096, .f32⟩
  | 19 => ⟨S4096x4096, .f32⟩
  | 20 => ⟨S1x4096, .f32⟩
  | 21 => ⟨S4096, .f32⟩
  | 22 => ⟨S1x4096, .f32⟩
  | 23 => ⟨S4096x4096, .f32⟩
  | 24 => ⟨S4096x4096, .f32⟩
  | 25 => ⟨S4096x4096, .f32⟩
  | 26 => ⟨S4096x4096, .f32⟩
  | 27 => ⟨S4096x4096, .f32⟩
  | 28 => ⟨S4096x2048, .f32⟩
  | 29 => ⟨S4096x2048, .f32⟩
  | 30 => ⟨S_, .f32⟩
  | 31 => ⟨S_, .f32⟩
  | 32 => ⟨S_, .f32⟩
  | 33 => ⟨S4096x2048, .f32⟩
  | 34 => ⟨S4096x2048, .f32⟩
  | 35 => ⟨S_, .f32⟩
  | 36 => ⟨S4096x2048, .f32⟩
  | 37 => ⟨S4096x2048, .f32⟩
  | 38 => ⟨S_, .f32⟩
  | 39 => ⟨S_, .f32⟩
  | 40 => ⟨S_, .f32⟩
  | 41 => ⟨S4096x2048, .f32⟩
  | 42 => ⟨S4096x2048, .f32⟩
  | 43 => ⟨S_, .f32⟩
  | 44 => ⟨S4096x2048, .f32⟩
  | 45 => ⟨S4096x2048, .f32⟩
  | 46 => ⟨S_, .f32⟩
  | 47 => ⟨S4096x2048, .f32⟩
  | 48 => ⟨S4096x2048, .f32⟩
  | 49 => ⟨S4096x2048, .f32⟩
  | 50 => ⟨S4096x2048, .f32⟩
  | 51 => ⟨S_, .f32⟩
  | 52 => ⟨S4096x2048, .f32⟩
  | 53 => ⟨S4096x2048, .f32⟩
  | 54 => ⟨S_, .f32⟩
  | 55 => ⟨S4096x2048, .f32⟩
  | 56 => ⟨S4096x2048, .f32⟩
  | 57 => ⟨S4096x2048, .f32⟩
  | 58 => ⟨S_, .f32⟩
  | 59 => ⟨S4096x2048, .f32⟩
  | 60 => ⟨S4096x2048, .f32⟩
  | 61 => ⟨S4096x2048, .f32⟩
  | 62 => ⟨S_, .i32⟩
  | 63 => ⟨S_, .i32⟩
  | 64 => ⟨S8, .i32⟩
  | 65 => ⟨S1x8, .i32⟩
  | 66 => ⟨S4096, .i32⟩
  | 67 => ⟨S4096x1, .i32⟩
  | 68 => ⟨S4096x8, .i32⟩
  | 69 => ⟨S4096x8, .i32⟩
  | 70 => ⟨S4096x8, .i1⟩
  | 71 => ⟨S4096x8, .i32⟩
  | 72 => ⟨S_, .i32⟩
  | 73 => ⟨S4096, .i32⟩
  | 74 => ⟨S_, .i32⟩
  | 75 => ⟨S_, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S_, .f32⟩
  | 83 => ⟨S4096x1024, .f32⟩
  | 84 => ⟨S_, .i32⟩
  | 85 => ⟨S4096, .i32⟩
  | 86 => ⟨S4096, .i1⟩
  | 87 => ⟨S4096x1, .i1⟩
  | 88 => ⟨S4096x1, .f32⟩
  | 89 => ⟨S1x2048x1024, .f32⟩
  | 90 => ⟨S2048x1024, .f32⟩
  | 91 => ⟨S4096x1024, .f32⟩
  | 92 => ⟨S1x1024, .f32⟩
  | 93 => ⟨S1024, .f32⟩
  | 94 => ⟨S1x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S_, .i32⟩
  | 101 => ⟨S4096, .i32⟩
  | 102 => ⟨S4096, .i1⟩
  | 103 => ⟨S4096x1, .i1⟩
  | 104 => ⟨S4096x1, .f32⟩
  | 105 => ⟨S1x2048x1024, .f32⟩
  | 106 => ⟨S2048x1024, .f32⟩
  | 107 => ⟨S4096x1024, .f32⟩
  | 108 => ⟨S1x1024, .f32⟩
  | 109 => ⟨S1024, .f32⟩
  | 110 => ⟨S1x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S_, .i32⟩
  | 117 => ⟨S4096, .i32⟩
  | 118 => ⟨S4096, .i1⟩
  | 119 => ⟨S4096x1, .i1⟩
  | 120 => ⟨S4096x1, .f32⟩
  | 121 => ⟨S1x2048x1024, .f32⟩
  | 122 => ⟨S2048x1024, .f32⟩
  | 123 => ⟨S4096x1024, .f32⟩
  | 124 => ⟨S1x1024, .f32⟩
  | 125 => ⟨S1024, .f32⟩
  | 126 => ⟨S1x1024, .f32⟩
  | 127 => ⟨S4096x1024, .f32⟩
  | _ => ⟨S4096x1024, .f32⟩

abbrev hbmTy0_2 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S_, .i32⟩
  | 5 => ⟨S4096, .i32⟩
  | 6 => ⟨S4096, .i1⟩
  | 7 => ⟨S4096x1, .i1⟩
  | 8 => ⟨S4096x1, .f32⟩
  | 9 => ⟨S1x2048x1024, .f32⟩
  | 10 => ⟨S2048x1024, .f32⟩
  | 11 => ⟨S4096x1024, .f32⟩
  | 12 => ⟨S1x1024, .f32⟩
  | 13 => ⟨S1024, .f32⟩
  | 14 => ⟨S1x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S_, .i32⟩
  | 21 => ⟨S4096, .i32⟩
  | 22 => ⟨S4096, .i1⟩
  | 23 => ⟨S4096x1, .i1⟩
  | 24 => ⟨S4096x1, .f32⟩
  | 25 => ⟨S1x2048x1024, .f32⟩
  | 26 => ⟨S2048x1024, .f32⟩
  | 27 => ⟨S4096x1024, .f32⟩
  | 28 => ⟨S1x1024, .f32⟩
  | 29 => ⟨S1024, .f32⟩
  | 30 => ⟨S1x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .i32⟩
  | 37 => ⟨S4096, .i32⟩
  | 38 => ⟨S4096, .i1⟩
  | 39 => ⟨S4096x1, .i1⟩
  | 40 => ⟨S4096x1, .f32⟩
  | 41 => ⟨S1x2048x1024, .f32⟩
  | 42 => ⟨S2048x1024, .f32⟩
  | 43 => ⟨S4096x1024, .f32⟩
  | 44 => ⟨S1x1024, .f32⟩
  | 45 => ⟨S1024, .f32⟩
  | 46 => ⟨S1x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S_, .i32⟩
  | 53 => ⟨S4096, .i32⟩
  | 54 => ⟨S4096, .i1⟩
  | 55 => ⟨S4096x1, .i1⟩
  | 56 => ⟨S4096x1, .f32⟩
  | 57 => ⟨S1x2048x1024, .f32⟩
  | 58 => ⟨S2048x1024, .f32⟩
  | 59 => ⟨S4096x1024, .f32⟩
  | 60 => ⟨S1x1024, .f32⟩
  | 61 => ⟨S1024, .f32⟩
  | 62 => ⟨S1x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S_, .i32⟩
  | 69 => ⟨S4096, .i32⟩
  | 70 => ⟨S4096, .i1⟩
  | 71 => ⟨S4096x1, .i1⟩
  | 72 => ⟨S4096x1, .f32⟩
  | 73 => ⟨S1x2048x1024, .f32⟩
  | 74 => ⟨S2048x1024, .f32⟩
  | 75 => ⟨S4096x1024, .f32⟩
  | 76 => ⟨S1x1024, .f32⟩
  | 77 => ⟨S1024, .f32⟩
  | 78 => ⟨S1x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_c_0 : Ref sig .tc := ⟨.hbm, 18, rfl⟩
abbrev main_c_1 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_6 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_c_7 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_c_8 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_c_9 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_cst_10 : Ref sig .tc := ⟨.hbm, 158, rfl⟩
abbrev main_cst_11 : Ref sig .tc := ⟨.hbm, 159, rfl⟩
abbrev main_call2_v0 : Ref sig .tc := ⟨.hbm, 160, rfl⟩
abbrev main_call2_v1 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_v133 : Ref sig .tc := ⟨.hbm, 165, rfl⟩
abbrev main_cst_12 : Ref sig .tc := ⟨.hbm, 166, rfl⟩
abbrev main_cst_13 : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_v134 : Ref sig .tc := ⟨.hbm, 173, rfl⟩
abbrev main_cst_14 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_15 : Ref sig .tc := ⟨.hbm, 179, rfl⟩
abbrev main_v139 : Ref sig .tc := ⟨.hbm, 180, rfl⟩
abbrev main_v140 : Ref sig .tc := ⟨.hbm, 181, rfl⟩
abbrev main_cst_16 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_17 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_call4_call0_c : Ref sig .tc := ⟨.hbm, 190, rfl⟩
abbrev main_call4_call0_v0 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_c_18 : Ref sig .tc := ⟨.hbm, 200, rfl⟩
abbrev main_v155 : Ref sig .tc := ⟨.hbm, 201, rfl⟩
abbrev main_c_19 : Ref sig .tc := ⟨.hbm, 202, rfl⟩
abbrev main_c_20 : Ref sig .tc := ⟨.hbm, 203, rfl⟩
abbrev main_call5_v0 : Ref sig .tc := ⟨.hbm, 204, rfl⟩
abbrev main_call5_v1 : Ref sig .tc := ⟨.hbm, 205, rfl⟩
abbrev main_call5_v2 : Ref sig .tc := ⟨.hbm, 206, rfl⟩
abbrev main_call5_v3 : Ref sig .tc := ⟨.hbm, 207, rfl⟩
abbrev main_call5_v4 : Ref sig .tc := ⟨.hbm, 208, rfl⟩
abbrev main_v156 : Ref sig .tc := ⟨.hbm, 209, rfl⟩
abbrev main_cst_21 : Ref sig .tc := ⟨.hbm, 210, rfl⟩
abbrev main_v157 : Ref sig .tc := ⟨.hbm, 211, rfl⟩
abbrev main_c_22 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_c_23 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_c_24 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_c_25 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_c_26 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_c_27 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_c_28 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_c_29 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.Pipeline.ValueKit

/-!
  The grouped feed-forward layer at one entry, when each of the eight experts owns 512 consecutive rows:
  row `r` belongs to expert `r / 512`. Both programs are shown equal to `layer`.
-/

@[expose] public section

noncomputable section

namespace Cert.Grouped

open Idealize.ShloMosaic

/-- The tokens, one row each. -/
abbrev Tokens : Type := FVec Ideal ⟨2, ![4096, 1024]⟩ .f32
/-- The first projection's weights, gate columns before up columns. -/
abbrev GateUpW : Type := FVec Ideal ⟨3, ![8, 1024, 4096]⟩ .f32
/-- The first projection's biases. -/
abbrev GateUpB : Type := FVec Ideal ⟨2, ![8, 4096]⟩ .f32
/-- The second projection's weights. -/
abbrev DownW : Type := FVec Ideal ⟨3, ![8, 2048, 1024]⟩ .f32
/-- The second projection's biases. -/
abbrev DownB : Type := FVec Ideal ⟨2, ![8, 1024]⟩ .f32

/-- The expert that owns a row. -/
def expert (r : Fin 4096) : Fin 8 := ⟨r.val / 512, by omega⟩

/-- A value limited to the interval from -7 to 7. -/
def clip (v : EReal) : EReal :=
  min (Ideal.ofBits FTy.f32 1088421888#32) (max (Ideal.ofBits FTy.f32 3235905536#32) v)

/-- The activation of one hidden unit from its gate and its up value. -/
def act (g u : EReal) : EReal :=
  (clip u + 1) * (clip g * Ideal.logistic (Ideal.ofBits FTy.f32 1071242019#32 * clip g))

/-- The first projection at one entry. -/
def gateUp (x : Tokens) (w : GateUpW) (b : GateUpB) (r j : Fin 4096) : EReal :=
  ∑ d : Fin 1024, x (ix2 r d) * w (ix3 (expert r) d j) + b (ix2 (expert r) j)

/-- One hidden unit of one row. -/
def hidden (x : Tokens) (w : GateUpW) (b : GateUpB) (r : Fin 4096) (k : Fin 2048) : EReal :=
  act (gateUp x w b r ⟨k.val, by omega⟩) (gateUp x w b r ⟨2048 + k.val, by omega⟩)

/-- The layer at one entry. -/
def layer (x : Tokens) (w : GateUpW) (b : GateUpB) (wd : DownW) (bd : DownB) (r : Fin 4096) (j : Fin 1024) : EReal :=
  ∑ k : Fin 2048, hidden x w b r k * wd (ix3 (expert r) k j) + bd (ix2 (expert r) j)

/-- The layer with its hidden units added up in two halves, the bias after the first half. -/
theorem layer_halves (x : Tokens) (w : GateUpW) (b : GateUpB) (wd : DownW) (bd : DownB) (r : Fin 4096) (j : Fin 1024) :
    layer x w b wd bd r j
      = (∑ k : Fin 1024, hidden x w b r ⟨k.val, by omega⟩ * wd (ix3 (expert r) ⟨k.val, by omega⟩ j)
          + bd (ix2 (expert r) j))
        + ∑ k : Fin 1024, hidden x w b r ⟨1024 + k.val, by omega⟩ * wd (ix3 (expert r) ⟨1024 + k.val, by omega⟩ j) := by
  unfold layer
  rw [show (∑ k : Fin 2048, hidden x w b r k * wd (ix3 (expert r) k j)) = _ from
    Fin.sum_univ_two_halves 1024 1024 rfl fun k : Fin 2048 => hidden x w b r k * wd (ix3 (expert r) k j)]
  exact add_right_comm _ _ _

end Cert.Grouped

end
-- ==== Proof.Tiles.lean ====
module

public import proofs.«01_k».proof.Proof.Gen.KernelIdeal.Value
public import proofs.«01_k».proof.Proof.Spec
public import Idealize.ShloMosaic.Lib.Pipeline.ValueKit

/-!
  The kernel's blocks as entries of its arguments, and what one grid point adds to the output block.
  Grid point `t` works on expert `t / 2` and on half `t % 2` of the hidden units.
-/

@[expose] public section

set_option maxRecDepth 16384

noncomputable section

namespace Cert.KernelIdeal.Tiles

open Cert.KernelIdeal Cert.KernelIdeal.Gen Cert.Grouped Idealize.ShloMosaic Idealize.ShloMosaic.TcCoe Idealize.SL.Sem
open Idealize.ShloMosaic.Pipeline (Dat)

variable (m : (ℓ : Loc nD τ sig) → Buf (Elt Ideal) ℓ)

/-- The tokens the kernel is given. -/
abbrev X (c : Dev nD) : Tokens := m ((c.tc : Thread nD τ).loc main_arg0)
/-- The first projection's weights the kernel is given. -/
abbrev W (c : Dev nD) : GateUpW := m ((c.tc : Thread nD τ).loc main_arg2)
/-- The first projection's biases the kernel is given. -/
abbrev B (c : Dev nD) : GateUpB := m ((c.tc : Thread nD τ).loc main_arg3)
/-- The second projection's weights the kernel is given. -/
abbrev WD (c : Dev nD) : DownW := m ((c.tc : Thread nD τ).loc main_arg4)
/-- The second projection's biases the kernel is given. -/
abbrev BD (c : Dev nD) : DownB := m ((c.tc : Thread nD τ).loc main_arg5)

/-- The block each window stages at a grid point. -/
theorem idx : ∀ t : Fin cfg0.N, win0_0.index t = ![t.val / 2, 0] ∧ win0_1.index t = ![t.val / 2, 0, t.val % 2]
    ∧ win0_2.index t = ![t.val / 2, 0, t.val % 2 + 2] ∧ win0_3.index t = ![t.val / 2, 0, t.val % 2]
    ∧ win0_4.index t = ![t.val / 2, t.val % 2, 0] ∧ win0_5.index t = ![t.val / 2, 0, 0]
    ∧ win0_6.index t = ![t.val / 2, 0] :=
  (by decide +kernel : ∀ t : Fin grid0.N, _)

/-- There are sixteen grid points. -/
theorem pts (t : Fin cfg0.N) : t.val < 16 := lt_of_lt_of_eq t.isLt N_0

/-- The row of the tokens that row `r` of a grid point's block is. -/
def row (t : Fin cfg0.N) (r : Fin 512) : Fin 4096 := ⟨512 * (t.val / 2) + r.val, by have := pts t; omega⟩

/-- The hidden unit that unit `k` of a grid point is. -/
def unit (t : Fin cfg0.N) (k : Fin 1024) : Fin 2048 := ⟨1024 * (t.val % 2) + k.val, by omega⟩

/-- A block's rows all belong to the grid point's expert. -/
theorem expert_row (t : Fin cfg0.N) (r : Fin 512) : expert (row t r) = ⟨t.val / 2, by have := pts t; omega⟩ :=
  Fin.ext (by simp only [expert, row]; omega)

/-- The staged tokens. -/
theorem blk0 (c : Dev nD) (t : Fin cfg0.N) (r : Fin 512) (d : Fin 1024) :
    iblk m c 0 t (ix2 r d) = X m c (ix2 (row t r) d) := by
  blk_point [iblk, V, row, unit, (idx t).1]

/-- The staged gate weights. -/
theorem blk1 (c : Dev nD) (t : Fin cfg0.N) (r : Fin 512) (d k : Fin 1024) :
    iblk m c 1 t (ix3 0 d k) = W m c (ix3 (expert (row t r)) d ⟨(unit t k).val, by omega⟩) := by
  rw [expert_row]
  blk_point [iblk, V, row, unit, (idx t).2.1]

/-- The staged up weights. -/
theorem blk2 (c : Dev nD) (t : Fin cfg0.N) (r : Fin 512) (d k : Fin 1024) :
    iblk m c 2 t (ix3 0 d k) = W m c (ix3 (expert (row t r)) d ⟨2048 + (unit t k).val, by omega⟩) := by
  rw [expert_row]
  blk_point [iblk, V, row, unit, (idx t).2.2.1]

/-- The staged biases of the first projection: gate in row 0, up in row 1. -/
theorem blk3 (c : Dev nD) (t : Fin cfg0.N) (r : Fin 512) (s : Fin 2) (k : Fin 1024) :
    iblk m c 3 t (ix3 0 s k) = B m c (ix2 (expert (row t r)) ⟨2048 * s.val + (unit t k).val, by omega⟩) := by
  rw [expert_row]
  blk_point [iblk, V, row, unit, (idx t).2.2.2.1]

/-- The staged gate biases. -/
theorem gate_bias (c : Dev nD) (t : Fin cfg0.N) (r : Fin 512) (k : Fin 1024) :
    iblk m c 3 t (ix3 0 0 k) = B m c (ix2 (expert (row t r)) ⟨(unit t k).val, by omega⟩) :=
  (blk3 m c t r 0 k).trans (by simp)

/-- The staged up biases. -/
theorem up_bias (c : Dev nD) (t : Fin cfg0.N) (r : Fin 512) (k : Fin 1024) :
    iblk m c 3 t (ix3 0 1 k) = B m c (ix2 (expert (row t r)) ⟨2048 + (unit t k).val, by omega⟩) :=
  (blk3 m c t r 1 k).trans (by simp)

/-- The staged weights of the second projection. -/
theorem blk4 (c : Dev nD) (t : Fin cfg0.N) (r : Fin 512) (k j : Fin 1024) :
    iblk m c 4 t (ix3 0 k j) = WD m c (ix3 (expert (row t r)) (unit t k) j) := by
  rw [expert_row]
  blk_point [iblk, V, row, unit, (idx t).2.2.2.2.1]

/-- The staged biases of the second projection. -/
theorem blk5 (c : Dev nD) (t : Fin cfg0.N) (r : Fin 512) (j : Fin 1024) :
    iblk m c 5 t (ix3 0 0 j) = BD m c (ix2 (expert (row t r)) j) := by
  rw [expert_row]
  blk_point [iblk, V, row, unit, (idx t).2.2.2.2.2.1]

/-- The hidden units a grid point computes from its blocks are the layer's. -/
theorem hidden_tile (c : Dev nD) (t : Fin cfg0.N) (r : Fin 512) (k : Fin 1024) :
    k0_pay4 (iblk m c 0 t) (iblk m c 1 t) (iblk m c 2 t)
        (View.ld (iblk m c 3 t) (Rect.unit ![0, 0, 0] ![1, 1, 1024] inb_S1x2x1024_S1x1x1024_0_0_0))
        (View.ld (iblk m c 3 t) (Rect.unit ![0, 1, 0] ![1, 1, 1024] inb_S1x2x1024_S1x1x1024_0_1_0)) (ix2 r k)
      = hidden (X m c) (W m c) (B m c) (row t r) (unit t k) := by
  pointwise [k0_pay4]
  simp only [Grouped.hidden, act, clip, gateUp, blk0 m c t r, blk1 m c t r, blk2 m c t r, gate_bias m c t r, up_bias m c t r]

/-- What a grid point adds to the output block: its half of the hidden units against their rows of the second projection. -/
def part (c : Dev nD) (t : Fin cfg0.N) (r : Fin 512) (j : Fin 1024) : EReal :=
  ∑ k : Fin 1024, hidden (X m c) (W m c) (B m c) (row t r) (unit t k) * WD m c (ix3 (expert (row t r)) (unit t k) j)

/-- The product a grid point computes is its part. -/
theorem part_tile (c : Dev nD) (t : Fin cfg0.N) (r : Fin 512) (j : Fin 1024) (h : Vec Ideal S512x1024 .f32)
    (hh : ∀ k, h (ix2 r k) = hidden (X m c) (W m c) (B m c) (row t r) (unit t k)) :
    k0_pay1 h (k0_pay5 (iblk m c 4 t)) (constant S512x1024 .f32 0#32) (ix2 r j) = part m c t r j := by
  pointwise [k0_pay1, k0_pay5]
  unfold part
  exact Finset.sum_congr rfl fun k _ => by rw [hh k, blk4 m c t r k j]

/-- An even grid point leaves its part and the bias. -/
theorem start (c : Dev nD) (t : Fin cfg0.N) (h0 : t.val % 2 = 0) (r : Fin 512) (j : Fin 1024) :
    outsAt0 m c t.val t.isLt (ix2 r j) = part m c t r j + BD m c (ix2 (expert (row t r)) j) := by
  rw [outsAt0_A m c t h0 (by omega)]
  frame_out
  pointwise [k0_pay2]
  exact congrArg₂ (· + ·) (part_tile m c t r j _ (hidden_tile m c t r)) (blk5 m c t r j)

/-- An odd grid point adds its part to what the grid point before left. -/
theorem step (c : Dev nD) (t : Fin cfg0.N) (h1 : t.val % 2 = 1) (r : Fin 512) (j : Fin 1024) :
    outsAt0 m c t.val t.isLt (ix2 r j)
      = outsAt0 m c (t.val - 1) (Nat.lt_of_le_of_lt (Nat.sub_le _ _) t.isLt) (ix2 r j) + part m c t r j := by
  rw [outsAt0_B m c t (by omega) h1]
  frame_out
  pointwise [k0_pay3]
  exact congrArg (outsAt0 m c (t.val - 1) _ (ix2 r j) + ·) (part_tile m c t r j _ (hidden_tile m c t r))

/-- An odd grid point leaves the layer's rows of its expert. -/
theorem block (c : Dev nD) (t : Fin cfg0.N) (h1 : t.val % 2 = 1) (r : Fin 512) (j : Fin 1024) :
    outsAt0 m c t.val t.isLt (ix2 r j) = layer (X m c) (W m c) (B m c) (WD m c) (BD m c) (row t r) j := by
  have hlt : t.val - 1 < cfg0.N := Nat.lt_of_le_of_lt (Nat.sub_le _ _) t.isLt
  have hs := start m c ⟨t.val - 1, hlt⟩ (show (t.val - 1) % 2 = 0 by omega) r j
  have hr : row ⟨t.val - 1, hlt⟩ r = row t r := Fin.ext (show 512 * ((t.val - 1) / 2) + r.val = 512 * (t.val / 2) + r.val by omega)
  have hu0 : ∀ k : Fin 1024, unit ⟨t.val - 1, hlt⟩ k = ⟨k.val, by omega⟩ := fun k =>
    Fin.ext (show 1024 * ((t.val - 1) % 2) + k.val = k.val by omega)
  have hu1 : ∀ k : Fin 1024, unit t k = ⟨1024 + k.val, by omega⟩ := fun k =>
    Fin.ext (show 1024 * (t.val % 2) + k.val = 1024 + k.val by omega)
  rw [step m c t h1 r j, layer_halves]
  refine (congrArg (· + part m c t r j) hs).trans ?_
  simp only [part, hr, hu0, hu1]

/-- The output array after the run is the layer at every entry. -/
theorem final (c : Dev nD) :
    (dats m 0 c).arrAt 6 cfg0.N
      = fun i : S4096x1024.Idx => layer (X m c) (W m c) (B m c) (WD m c) (BD m c) (i 0) (i 1) := by
  refine (dats m 0 c).arrAt_eq_of_covers 6 _ (by decide +kernel) fun t hf y => ?_
  have h1 : t.val % 2 = 1 := (flush0_6 t).mp hf
  rw [after0_6]
  blk_simp
  refine Eq.trans (congrArg (outsAt0 m c t.val t.isLt) (funext fun a => ?_)) ((block m c t h1 (y 0) (y 1)).trans ?_)
  · fin_cases a <;> rfl
  · refine congrArg₂ (layer _ _ _ _ _) (Fin.ext ?_) (Fin.ext ?_)
    · blk_simp [idx t]
      exact congrArg (· + (y 0).val) (Nat.mul_comm _ _)
    · blk_simp [idx t]

end Cert.KernelIdeal.Tiles

end
-- ==== Proof.Segments.lean ====
module

public import proofs.«01_k».proof.Proof.Gen.ReferenceIdeal.Run
public import proofs.«01_k».proof.Proof.Gen.Pre_even_groups
public import Idealize.ShloMosaic.Lib.Pointwise
public import Idealize.ShloMosaic.Lib.ReduceAll
public import Idealize.ShloMosaic.Lib.WordCmp

/-!
  The expert numbers the reference computes from the group sizes. Under the precondition every group has 512 rows, so
  the expert of row `r` is `r / 512`.
-/

@[expose] public section

set_option maxRecDepth 16384

noncomputable section

namespace Cert.ReferenceIdeal.Segments

open Cert.ReferenceIdeal Cert.ReferenceIdeal.Gen Cert.ReferenceIdeal.Value Idealize.ShloMosaic Idealize.ShloMosaic.TcCoe Idealize.SL.Sem Idealize.ShloMosaic.StableHlo

/-- The precondition says that every group size is 512. -/
theorem sizes (x : FVec Ideal S4096x1024 .f32) (gs : IVec S8 32) (w : FVec Ideal S8x1024x4096 .f32) (b : FVec Ideal S8x4096 .f32)
    (wd : FVec Ideal S8x2048x1024 .f32) (bd : FVec Ideal S8x1024 .f32)
    (h : Cert.Pre_even_groups.fn (F := Ideal) x gs w b wd bd = fun _ => 1#1) (k : S8.Idx) : gs k = 512#32 := by
  have e := congrFun h ix0
  unfold Cert.Pre_even_groups.fn at e
  haveI : Subsingleton Cert.Pre_even_groups.S_.Idx := ⟨fun a b => funext fun i => i.elim0⟩
  have hk : IntOp.cmpi .eq (gs k) 512#32 = 1#1 := Host.reduce_andi_all _ _ _ _ _ e k
  by_contra hne
  rw [WordCmp.cmpi_eq_eq, decide_eq_false hne] at hk
  exact absurd hk (by decide)

/-- With equal groups, expert `n` ends before row `512 * (n + 1)`. -/
theorem ends (gs : IVec S8 32) (h : ∀ i, gs i = 512#32) (n : Fin 8) :
    Host.reduceWindow IntOp.addi ![8] ![1] ![7] ![0] gs (broadcastInDim S_ ![] bcast_S_S_ (constantI S_ 32 0#32))
      reduceWindows_S8_S8_w8s1p7_0 h_S_ (ix1 n) = BitVec.ofNat 32 (512 * (n.val + 1)) := by
  obtain rfl : gs = fun _ => 512#32 := funext h
  revert n
  decide +kernel

/-- The number of experts that end at or before row `r`, limited to the expert numbers, is `r / 512`. -/
theorem count : ∀ r : Fin 4096,
    IntOp.minsi 7#32 (IntOp.maxsi 0#32 (Finset.fold IntOp.addi 0#32
      (fun n : Fin 8 => BitVec.setWidth 32 (IntOp.cmpi .sle (BitVec.ofNat 32 (512 * (n.val + 1))) (BitVec.ofNat 32 r.val)))
      Finset.univ)) = BitVec.ofNat 32 (r.val / 512) := by
  decide +kernel

/-- The expert number of a row. -/
theorem seg (V0 : Valuation τ sig (Elt Ideal)) (h : ∀ i, (V0 (Proc.devRef .tc main_arg1) : IVec S8 32) i = 512#32)
    (r : Fin 4096) : res_main_v9 V0 (ix1 r) = BitVec.ofNat 32 (r.val / 512) := by
  rw [← count r]
  pointwise [res_main_v9]
  simp only [ends _ h]
  rfl

/-- The expert number of a row, computed again for the second projection. -/
theorem seg_again (V0 : Valuation τ sig (Elt Ideal)) (h : ∀ i, (V0 (Proc.devRef .tc main_arg1) : IVec S8 32) i = 512#32)
    (r : Fin 4096) : res_main_v156 V0 (ix1 r) = BitVec.ofNat 32 (r.val / 512) := by
  refine Eq.trans ?_ (seg V0 h r)
  unfold res_main_v156 res_main_v9
  rfl

end Cert.ReferenceIdeal.Segments

end
-- ==== Proof.Reference.lean ====
module

public import proofs.«01_k».proof.Proof.Segments
public import proofs.«01_k».proof.Proof.Spec

/-!
  The reference at one entry. Each projection is a sum over the eight experts of that expert's product times a mask that is
  one on the expert's own rows and zero elsewhere, so one summand is left.
-/

@[expose] public section

set_option maxRecDepth 16384

noncomputable section

namespace Cert.ReferenceIdeal.Plain

open Cert.ReferenceIdeal Cert.ReferenceIdeal.Gen Cert.ReferenceIdeal.Value Cert.ReferenceIdeal.Segments Cert.Grouped
open Idealize.ShloMosaic Idealize.ShloMosaic.TcCoe Idealize.SL.Sem Idealize.ShloMosaic.StableHlo

/-- Two expert numbers compared as words. -/
theorem bits : ∀ e i : Fin 8,
    IntOp.cmpi .eq (BitVec.ofNat 32 e.val) (BitVec.ofNat 32 i.val) = if i = e then 1#1 else 0#1 := by
  decide

/-- The mask of expert `i` on a row of expert `e`. -/
theorem mask (e i : Fin 8) :
    (FloatOps.uitofp FTy.f32 (IntOp.cmpi .eq (BitVec.ofNat 32 e.val) (BitVec.ofNat 32 i.val)) : Ideal .f32)
      = if i = e then (1 : EReal) else 0 := by
  rw [bits]
  split
  · simp [FloatOps.uitofp]
  · simp [FloatOps.uitofp]

/-- Of eight masked summands the one of the row's own expert is left. -/
theorem pick (e : Fin 8) (s : BitVec 32) (hs : s = BitVec.ofNat 32 e.val) (y : Fin 8 → EReal) :
    (FloatOps.uitofp FTy.f32 (IntOp.cmpi .eq s 0#32) : Ideal .f32) * y 0
      + (FloatOps.uitofp FTy.f32 (IntOp.cmpi .eq s 1#32) : Ideal .f32) * y 1
      + (FloatOps.uitofp FTy.f32 (IntOp.cmpi .eq s 2#32) : Ideal .f32) * y 2
      + (FloatOps.uitofp FTy.f32 (IntOp.cmpi .eq s 3#32) : Ideal .f32) * y 3
      + (FloatOps.uitofp FTy.f32 (IntOp.cmpi .eq s 4#32) : Ideal .f32) * y 4
      + (FloatOps.uitofp FTy.f32 (IntOp.cmpi .eq s 5#32) : Ideal .f32) * y 5
      + (FloatOps.uitofp FTy.f32 (IntOp.cmpi .eq s 6#32) : Ideal .f32) * y 6
      + (FloatOps.uitofp FTy.f32 (IntOp.cmpi .eq s 7#32) : Ideal .f32) * y 7 = y e := by
  subst hs
  have hm : ∀ i : Fin 8, (FloatOps.uitofp FTy.f32 (IntOp.cmpi .eq (BitVec.ofNat 32 e.val) (BitVec.ofNat 32 i.val)) : Ideal .f32) * y i
      = if i = e then y i else 0 := fun i => by rw [mask e i, ite_mul, one_mul, zero_mul]
  refine Eq.trans ?_ ((Finset.sum_ite_eq' Finset.univ e y).trans (if_pos (Finset.mem_univ e)))
  rw [← Finset.sum_congr rfl fun i _ => hm i, Fin.sum_univ_eight]
  rfl

variable (V0 : Valuation τ sig (Elt Ideal))

/-- The tokens the reference is given. -/
abbrev X : Tokens := V0 (Proc.devRef .tc main_arg0)
/-- The first projection's weights the reference is given. -/
abbrev W : GateUpW := V0 (Proc.devRef .tc main_arg2)
/-- The first projection's biases the reference is given. -/
abbrev B : GateUpB := V0 (Proc.devRef .tc main_arg3)
/-- The second projection's weights the reference is given. -/
abbrev WD : DownW := V0 (Proc.devRef .tc main_arg4)
/-- The second projection's biases the reference is given. -/
abbrev BD : DownB := V0 (Proc.devRef .tc main_arg5)

/-- The reference's first projection. -/
theorem first (h : ∀ i, (V0 (Proc.devRef .tc main_arg1) : IVec S8 32) i = 512#32) (r j : Fin 4096) :
    res_main_v130 V0 (ix2 r j) = gateUp (X V0) (W V0) (B V0) r j := by
  refine Eq.trans ?_ (pick (expert r) _ (seg V0 h r)
    fun i => ∑ d : Fin 1024, X V0 (ix2 r d) * W V0 (ix3 i d j) + B V0 (ix2 i j))
  pointwise [res_main_v130, res_main_v100]

/-- The reference's hidden units. -/
theorem hid (h : ∀ i, (V0 (Proc.devRef .tc main_arg1) : IVec S8 32) i = 512#32) (r : Fin 4096) (k : Fin 2048) :
    res_main_v146 V0 (ix2 r k) = hidden (X V0) (W V0) (B V0) r k := by
  pointwise [res_main_v146, res_main_v133]
  simp only [first V0 h]
  rfl

/-- The reference's result is the layer at every entry. -/
theorem out (h : ∀ i, (V0 (Proc.devRef .tc main_arg1) : IVec S8 32) i = 512#32) :
    val6 V0 (Proc.devRef .tc main_v277)
      = fun i : S4096x1024.Idx => layer (X V0) (W V0) (B V0) (WD V0) (BD V0) (i 0) (i 1) := by
  rw [val6_main_v277]
  refine funext fun i => ?_
  idx_vars i
  refine Eq.trans ?_ (pick (expert i0) _ (seg_again V0 h i0)
    fun e => ∑ k : Fin 2048, hidden (X V0) (W V0) (B V0) i0 k * WD V0 (ix3 e k i1) + BD V0 (ix2 e i1))
  pointwise [res_main_v247]
  simp only [hid V0 h]

end Cert.ReferenceIdeal.Plain

end
-- ==== Proof.Equation.lean ====
module

public import proofs.«01_k».proof.Defs
public import proofs.«01_k».proof.Proof.Gen.Kernel
public import proofs.«01_k».proof.Proof.Tiles
public import proofs.«01_k».proof.Proof.Reference
public import Idealize.ShloMosaic.Lib.Claim

/-!
  The value claim: under equal groups the kernel's output array and the reference's result are the same layer.
-/

@[expose] public section

set_option maxRecDepth 16384

noncomputable section

namespace Cert.Proof

open Idealize.ShloMosaic Idealize.SL.Sem Idealize.ShloMosaic.StableHlo

attribute [local instance] Cert.Kernel.Gen.facts Cert.KernelIdeal.Gen.facts Cert.ReferenceIdeal.Gen.facts Cert.Pre_even_groups.Gen.facts

/-- The kernel's output array is the reference's result. -/
theorem algebraic : Cert.algebraic_KernelIdeal_ReferenceIdeal_pre_even_groups := by
  pair_intro
  · run_from Cert.KernelIdeal.Gen.run_main m g
  · refine (θ_run _ _ _).mono (fun r h c => ⟨(h c).1.trans ?_, (h c).2⟩) (Cert.ReferenceIdeal.Value.run m' g')
    obtain ⟨a0, a1, a2, a3, a4, a5⟩ := hagree c
    have hs : ∀ i, m' ((c.tc : Thread Cert.ReferenceIdeal.nD Cert.ReferenceIdeal.τ).loc Cert.ReferenceIdeal.main_arg1) i = 512#32 :=
      fun i => (congrFun a1 i).trans (Cert.ReferenceIdeal.Segments.sizes _ _ _ _ _ _ (hpre c) i)
    refine (Cert.ReferenceIdeal.Value.val6_main_v277 _).symm.trans
      ((Cert.ReferenceIdeal.Plain.out (launchContents m' c) hs).trans (Eq.trans ?_ (Cert.KernelIdeal.Tiles.final m c).symm))
    have e0 : Cert.ReferenceIdeal.Plain.X (launchContents m' c) = Cert.KernelIdeal.Tiles.X m c := a0
    have e2 : Cert.ReferenceIdeal.Plain.W (launchContents m' c) = Cert.KernelIdeal.Tiles.W m c := a2
    have e3 : Cert.ReferenceIdeal.Plain.B (launchContents m' c) = Cert.KernelIdeal.Tiles.B m c := a3
    have e4 : Cert.ReferenceIdeal.Plain.WD (launchContents m' c) = Cert.KernelIdeal.Tiles.WD m c := a4
    have e5 : Cert.ReferenceIdeal.Plain.BD (launchContents m' c) = Cert.KernelIdeal.Tiles.BD m c := a5
    rw [e0, e2, e3, e4, e5]

end Cert.Proof

end
-- ==== Proof.lean ====
module

public import proofs.«01_k».proof.Proof.Equation
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_even_groups
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments alone, and ends with every counter at zero: it declares none. -/
theorem reference_frame : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩)
    (Cert.ReferenceIdeal.Value.run m g)

/-- Every claim of the certificate. -/
theorem claim : Cert.Claim :=
  ⟨Cert.Kernel.Gen.facts, Cert.KernelIdeal.Gen.facts, Cert.ReferenceIdeal.Gen.facts, Cert.Pre_even_groups.Gen.facts,
    fun m g _ => Cert.Kernel.Gen.frame m g,
    fun m g _ => Cert.KernelIdeal.Gen.frame m g,
    fun m g _ => Cert.KernelIdeal.Gen.frame m g,
    fun m g _ => reference_frame m g trivial,
    fun m g _ => reference_frame m g trivial,
    trivial,
    algebraic⟩

end Cert.Proof

end
